-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v71)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v71) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S8x4096x3 : Shape := ⟨3, ![8, 4096, 3]⟩
abbrev S_ : Shape := ⟨0, ![]⟩

class Facts : Prop where
  bcast_S_S8x4096x3 : S_.BroadcastsInDim S8x4096x3 (![] : Fin 0 → Fin S8x4096x3.rank)
  reducesTo_S8x4096x3_S_d0_1_2 : S8x4096x3.ReducesTo [0, 1, 2] S_
  h_S_ : 0 < S_.numel

variable [Facts]

def fn {F : FTy → Type} [FloatOps F] (main_arg0 : FVec F S8x4096x3 .f32) (main_arg1 : FVec F S8x4096x3 .f32) : IVec S_ 1 :=
  let main_v0 : FVec F S8x4096x3 .f32 := Host.absf main_arg0
  let main_cst : FVec F S_ .f32 := constant S_ .f32 0x7F800000#32
  let main_v1 : FVec F S8x4096x3 .f32 := broadcastInDim S8x4096x3 ![] bcast_S_S8x4096x3 main_cst
  let main_v2 : IVec S8x4096x3 1 := cmpf .olt main_v0 main_v1
  let main_c : IVec S_ 1 := constantI S_ 1 1#1
  let main_v3 : IVec S_ 1 := (fun x v => Host.reduce IntOp.andi x v reducesTo_S8x4096x3_S_d0_1_2 h_S_) main_v2 main_c
  let main_v4 : FVec F S8x4096x3 .f32 := Host.absf main_arg1
  let main_cst_0 : FVec F S_ .f32 := constant S_ .f32 0x7F800000#32
  let main_v5 : FVec F S8x4096x3 .f32 := broadcastInDim S8x4096x3 ![] bcast_S_S8x4096x3 main_cst_0
  let main_v6 : IVec S8x4096x3 1 := cmpf .olt main_v4 main_v5
  let main_c_1 : IVec S_ 1 := constantI S_ 1 1#1
  let main_v7 : IVec S_ 1 := (fun x v => Host.reduce IntOp.andi x v reducesTo_S8x4096x3_S_d0_1_2 h_S_) main_v6 main_c_1
  let main_v8 : IVec S_ 1 := andi main_v3 main_v7
  main_v8
-- ==== Kernel.lean ====
abbrev S8x4096x3 : Shape := ⟨3, ![8, 4096, 3]⟩
abbrev S8x4096x1 : Shape := ⟨3, ![8, 4096, 1]⟩
abbrev S8x4096 : Shape := ⟨2, ![8, 4096]⟩
abbrev S_ : Shape := ⟨0, ![]⟩
abbrev S8x1x4096 : Shape := ⟨3, ![8, 1, 4096]⟩
abbrev S8x8x4096 : Shape := ⟨3, ![8, 8, 4096]⟩
abbrev S8x5x4096 : Shape := ⟨3, ![8, 5, 4096]⟩
abbrev S8x4096x8 : Shape := ⟨3, ![8, 4096, 8]⟩
abbrev S8x1x128 : Shape := ⟨3, ![8, 1, 128]⟩
abbrev S1x4096x8 : Shape := ⟨3, ![1, 4096, 8]⟩
abbrev S1x8x4096 : Shape := ⟨3, ![1, 8, 4096]⟩
abbrev S1x1x128 : Shape := ⟨3, ![1, 1, 128]⟩
abbrev S4096 : Shape := ⟨1, ![4096]⟩
abbrev S128 : Shape := ⟨1, ![128]⟩
abbrev S1x256x8 : Shape := ⟨3, ![1, 256, 8]⟩
abbrev S256x8 : Shape := ⟨2, ![256, 8]⟩
abbrev S256x4096 : Shape := ⟨2, ![256, 4096]⟩
abbrev S256 : Shape := ⟨1, ![256]⟩
abbrev S2x128 : Shape := ⟨2, ![2, 128]⟩
abbrev S32x128 : Shape := ⟨2, ![32, 128]⟩

abbrev nBuf : Space → Nat
  | .hbm => 81
  | .vmem => 6
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .bf16⟩
  | .hbm, ⟨3, _⟩ => ⟨S8x4096x3, .f32⟩
  | .hbm, ⟨4, _⟩ => ⟨S8x4096x1, .f32⟩
  | .hbm, ⟨5, _⟩ => ⟨S8x4096, .f32⟩
  | .hbm, ⟨6, _⟩ => ⟨S8x4096x1, .f32⟩
  | .hbm, ⟨7, _⟩ => ⟨S8x4096, .f32⟩
  | .hbm, ⟨8, _⟩ => ⟨S8x4096x1, .f32⟩
  | .hbm, ⟨9, _⟩ => ⟨S8x4096, .f32⟩
  | .hbm, ⟨10, _⟩ => ⟨S8x4096, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S8x4096, .f32⟩
  | .hbm, ⟨15, _⟩ => ⟨S8x4096, .bf16⟩
  | .hbm, ⟨16, _⟩ => ⟨S8x4096, .f32⟩
  | .hbm, ⟨17, _⟩ => ⟨S8x4096, .f32⟩
  | .hbm, ⟨18, _⟩ => ⟨S8x4096, .bf16⟩
  | .hbm, ⟨19, _⟩ => ⟨S8x4096, .f32⟩
  | .hbm, ⟨20, _⟩ => ⟨S_, .f32⟩
  | .hbm, ⟨21, _⟩ => ⟨S8x4096, .f32⟩
  | .hbm, ⟨22, _⟩ => ⟨S_, .f32⟩
  | .hbm, ⟨23, _⟩ => ⟨S8x4096, .f32⟩
  | .hbm, ⟨24, _⟩ => ⟨S8x4096x1, .f32⟩
  | .hbm, ⟨25, _⟩ => ⟨S8x4096, .f32⟩
  | .hbm, ⟨26, _⟩ => ⟨S8x4096x1, .f32⟩
  | .hbm, ⟨27, _⟩ => ⟨S8x4096, .f32⟩
  | .hbm, ⟨28, _⟩ => ⟨S8x4096x1, .f32⟩
  | .hbm, ⟨29, _⟩ => ⟨S8x4096, .f32⟩
  | .hbm, ⟨30, _⟩ => ⟨S8x1x4096, .f32⟩
  | .hbm, ⟨31, _⟩ => ⟨S8x1x4096, .f32⟩
  | .hbm, ⟨32, _⟩ => ⟨S8x1x4096, .f32⟩
  | .hbm, ⟨33, _⟩ => ⟨S8x1x4096, .f32⟩
  | .hbm, ⟨34, _⟩ => ⟨S8x1x4096, .f32⟩
  | .hbm, ⟨35, _⟩ => ⟨S8x1x4096, .f32⟩
  | .hbm, ⟨36, _⟩ => ⟨S8x1x4096, .f32⟩
  | .hbm, ⟨37, _⟩ => ⟨S8x1x4096, .f32⟩
  | .hbm, ⟨38, _⟩ => ⟨S8x8x4096, .f32⟩
  | .hbm, ⟨39, _⟩ => ⟨S8x1x4096, .f32⟩
  | .hbm, ⟨40, _⟩ => ⟨S8x1x4096, .f32⟩
  | .hbm, ⟨41, _⟩ => ⟨S8x1x4096, .f32⟩
  | .hbm, ⟨42, _⟩ => ⟨S8x1x4096, .f32⟩
  | .hbm, ⟨43, _⟩ => ⟨S8x1x4096, .f32⟩
  | .hbm, ⟨44, _⟩ => ⟨S8x5x4096, .f32⟩
  | .hbm, ⟨45, _⟩ => ⟨S8x4096x3, .bf16⟩
  | .hbm, ⟨46, _⟩ => ⟨S8x4096x3, .f32⟩
  | .hbm, ⟨47, _⟩ => ⟨S_, .f32⟩
  | .hbm, ⟨48, _⟩ => ⟨S8x4096x3, .f32⟩
  | .hbm, ⟨49, _⟩ => ⟨S8x4096x3, .f32⟩
  | .hbm, ⟨50, _⟩ => ⟨S8x4096x1, .f32⟩
  | .hbm, ⟨51, _⟩ => ⟨S8x4096, .f32⟩
  | .hbm, ⟨52, _⟩ => ⟨S8x4096x1, .f32⟩
  | .hbm, ⟨53, _⟩ => ⟨S8x4096, .f32⟩
  | .hbm, ⟨54, _⟩ => ⟨S8x4096x1, .f32⟩
  | .hbm, ⟨55, _⟩ => ⟨S8x4096, .f32⟩
  | .hbm, ⟨56, _⟩ => ⟨S8x4096, .f32⟩
  | .hbm, ⟨57, _⟩ => ⟨S8x4096, .f32⟩
  | .hbm, ⟨58, _⟩ => ⟨S8x4096, .f32⟩
  | .hbm, ⟨59, _⟩ => ⟨S8x4096, .f32⟩
  | .hbm, ⟨60, _⟩ => ⟨S8x4096, .f32⟩
  | .hbm, ⟨61, _⟩ => ⟨S8x4096, .bf16⟩
  | .hbm, ⟨62, _⟩ => ⟨S8x4096, .f32⟩
  | .hbm, ⟨63, _⟩ => ⟨S8x4096, .f32⟩
  | .hbm, ⟨64, _⟩ => ⟨S8x4096, .bf16⟩
  | .hbm, ⟨65, _⟩ => ⟨S8x4096, .f32⟩
  | .hbm, ⟨66, _⟩ => ⟨S_, .f32⟩
  | .hbm, ⟨67, _⟩ => ⟨S8x4096, .f32⟩
  | .hbm, ⟨68, _⟩ => ⟨S_, .f32⟩
  | .hbm, ⟨69, _⟩ => ⟨S8x4096, .f32⟩
  | .hbm, ⟨70, _⟩ => ⟨S8x4096x1, .f32⟩
  | .hbm, ⟨71, _⟩ => ⟨S8x4096x1, .f32⟩
  | .hbm, ⟨72, _⟩ => ⟨S8x4096x1, .f32⟩
  | .hbm, ⟨73, _⟩ => ⟨S8x4096x1, .f32⟩
  | .hbm, ⟨74, _⟩ => ⟨S8x4096x1, .f32⟩
  | .hbm, ⟨75, _⟩ => ⟨S8x4096x8, .f32⟩
  | .hbm, ⟨76, _⟩ => ⟨S8x1x128, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .local _ .vmem, ⟨0, _⟩ => ⟨S1x4096x8, .f32⟩
  | .local _ .vmem, ⟨1, _⟩ => ⟨S1x4096x8, .f32⟩
  | .local _ .vmem, ⟨2, _⟩ => ⟨S1x8x4096, .f32⟩
  | .local _ .vmem, ⟨3, _⟩ => ⟨S1x8x4096, .f32⟩
  | .local _ .vmem, ⟨4, _⟩ => ⟨S1x1x128, .f32⟩
  | .local _ .vmem, ⟨5, _⟩ => ⟨S1x1x128, .f32⟩
  | _, _ => ⟨S8x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_cst_0 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_cst_1 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_cst_2 : Ref sig .tc := ⟨.hbm, 66, rfl⟩
abbrev main_v61 : Ref sig .tc := ⟨.hbm, 67, rfl⟩
abbrev main_cst_3 : Ref sig .tc := ⟨.hbm, 68, rfl⟩
abbrev main_v62 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_cst_4 : Ref sig .tc := ⟨.hbm, 77, rfl⟩
abbrev main_v70 : Ref sig .tc := ⟨.hbm, 78, rfl⟩
abbrev main_cst_5 : Ref sig .tc := ⟨.hbm, 79, rfl⟩
abbrev main_v71 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S8x4096x3 : Shape := ⟨3, ![8, 4096, 3]⟩
abbrev S_ : Shape := ⟨0, ![]⟩
abbrev S8x4096 : Shape := ⟨2, ![8, 4096]⟩
abbrev S8x4096x4096 : Shape := ⟨3, ![8, 4096, 4096]⟩
abbrev S8x4096x1 : Shape := ⟨3, ![8, 4096, 1]⟩
abbrev S8x1x4096 : Shape := ⟨3, ![8, 1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8x4096x3, .f32⟩
  | .hbm, ⟨1, _⟩ => ⟨S8x4096x3, .f32⟩
  | .hbm, ⟨2, _⟩ => ⟨S8x4096x3, .f32⟩
  | .hbm, ⟨3, _⟩ => ⟨S_, .f32⟩
  | .hbm, ⟨4, _⟩ => ⟨S8x4096, .f32⟩
  | .hbm, ⟨5, _⟩ => ⟨S8x4096x3, .f32⟩
  | .hbm, ⟨6, _⟩ => ⟨S_, .f32⟩
  | .hbm, ⟨7, _⟩ => ⟨S8x4096, .f32⟩
  | .hbm, ⟨8, _⟩ => ⟨S8x4096x4096, .f32⟩
  | .hbm, ⟨9, _⟩ => ⟨S8x4096x1, .f32⟩
  | .hbm, ⟨10, _⟩ => ⟨S8x1x4096, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S_, .f32⟩
  | .hbm, ⟨15, _⟩ => ⟨S8x4096x4096, .f32⟩
  | .hbm, ⟨16, _⟩ => ⟨S8x4096x4096, .f32⟩
  | .hbm, ⟨17, _⟩ => ⟨S8x4096x4096, .f32⟩
  | .hbm, ⟨18, _⟩ => ⟨S_, .f32⟩
  | .hbm, ⟨19, _⟩ => ⟨S8x4096x4096, .f32⟩
  | .hbm, ⟨20, _⟩ => ⟨S8x4096x4096, .f32⟩
  | .hbm, ⟨21, _⟩ => ⟨S_, .f32⟩
  | .hbm, ⟨22, _⟩ => ⟨S8x4096, .f32⟩
  | .hbm, ⟨23, _⟩ => ⟨S8x4096, .f32⟩
  | .hbm, ⟨24, _⟩ => ⟨S_, .f32⟩
  | .hbm, ⟨25, _⟩ => ⟨S8x4096, .f32⟩
  | .hbm, ⟨26, _⟩ => ⟨S8x4096, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | _, _ => ⟨S8x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩

abbrev nD : Nat := 1
abbrev τ : Topo := Topo.v7x

variable {F : FTy → Type} [FloatOps F]
-- ==== Proof.Tile.lean ====
/-
  One row tile of the kernel's body, read at an index.

  The body takes sixteen tiles of 256 points of the first cloud. For each it forms the 256 × 4096 table of squared
  distances as one product of an augmented tile `a` (256 rows of eight) and the augmented second cloud `b` (eight
  rows of 4096), then reduces the table both ways: along its rows to a root per point of the first cloud, folded into
  128 lanes (`rowRoots`), and down its columns to a running minimum per point of the second (`colMin`).
-/
module

public import proofs.«01_k».proof.Proof.Gen.KernelIdeal.Skeleton
public import Idealize.ShloMosaic.Lib.Pointwise

@[expose] public section

noncomputable section

namespace Cert.Chamfer

open Idealize.ShloMosaic Cert.KernelIdeal Cert.KernelIdeal.Gen

/-- The tile's table of squared distances. -/
def table (a : FVec Ideal S1x256x8 .f32) (b : FVec Ideal S1x8x4096 .f32) : FVec Ideal S256x4096 .f32 := k0_pay1 a b

/-- The clamped root of each row's least entry, row `128 p + l` added into lane `l`. -/
def rowRoots (s : FVec Ideal S256x4096 .f32) : FVec Ideal S128 .f32 :=
  multiReduction .add [0] S128
    (shapeCast S2x128
      (sqrt (maximumf (multiReduction .minimumf [1] S256 s 0x7F800000#32 reduces_S256x4096_S256 (.inl rfl) rfl)
        (broadcast S256 (Scalar.ofBits .f32 0x00000000#32))))
      shapeCasts_S256_S2x128)
    0x00000000#32 reduces_S2x128_S128 (.inl rfl) rfl

/-- The least entry of each column. -/
def colMin (s : FVec Ideal S256x4096 .f32) : FVec Ideal S4096 .f32 :=
  multiReduction .minimumf [0] S4096 s 0x7F800000#32 reduces_S256x4096_S4096 (.inl rfl) rfl

/-- The clamped root of each column's least entry, column `128 q + l` added into lane `l`. -/
def colRoots (d : FVec Ideal S4096 .f32) : FVec Ideal S128 .f32 :=
  multiReduction .add [0] S128
    (shapeCast S32x128 (sqrt (maximumf d (broadcast S4096 (Scalar.ofBits .f32 0x00000000#32)))) shapeCasts_S4096_S32x128)
    0x00000000#32 reduces_S32x128_S128 (.inl rfl) rfl

theorem table_apply (a : FVec Ideal S1x256x8 .f32) (b : FVec Ideal S1x8x4096 .f32) (p : Fin 256) (q : Fin 4096) :
    table a b (ix2 p q) = ∑ k : Fin 8, a (ix3 0 p k) * b (ix3 0 k q) := by
  pointwise [table, k0_pay1]

/-- The f32 pattern `0x7F800000`, every minimum's first value, is the greatest extended real. -/
theorem ofBits_top : Ideal.ofBits .f32 0x7F800000#32 = ⊤ := by simp [Ideal.ofBits, Ideal.ieee]

/-- A minimum folded from there is the infimum. -/
theorem fold_min_eq_inf {n : Nat} (f : Fin n → EReal) :
    Finset.univ.fold min (Ideal.ofBits .f32 0x7F800000#32) f = Finset.univ.inf f := by
  rw [ofBits_top]; rfl

/-- The root that every distance ends as: a squared distance below zero counts as zero. -/
def root (x : EReal) : EReal := Ideal.sqrt (max x 0)

theorem rowRoots_apply (s : FVec Ideal S256x4096 .f32) (l : Fin 128) :
    rowRoots s (ix1 l)
      = ∑ p : Fin 2, root (Finset.univ.inf fun q : Fin 4096 => s (ix2 ⟨p.val * 128 + l.val, by omega⟩ q)) := by
  pointwise [rowRoots, fold_min_eq_inf, root]

theorem colMin_apply (s : FVec Ideal S256x4096 .f32) (q : Fin 4096) :
    colMin s (ix1 q) = Finset.univ.inf fun p : Fin 256 => s (ix2 p q) := by
  pointwise [colMin, fold_min_eq_inf]

theorem colRoots_apply (d : FVec Ideal S4096 .f32) (l : Fin 128) :
    colRoots d (ix1 l) = ∑ p : Fin 32, root (d (ix1 ⟨p.val * 128 + l.val, by omega⟩)) := by
  pointwise [colRoots, root]

end Cert.Chamfer
-- ==== Proof.Pre.lean ====
/-
  What the precondition `finite` says of the two clouds: every coordinate is a real number.
-/
module

public import proofs.«01_k».proof.Defs
public import proofs.«01_k».proof.Proof.Tile
public import Idealize.ShloMosaic.Lib.ReduceAll
public import Idealize.ShloMosaic.Lib.Affine

@[expose] public section

noncomputable section

namespace Cert.Chamfer

open Idealize.ShloMosaic

/-- The side conditions of the precondition's operations. -/
instance preFacts : Cert.Pre_finite.Facts := ⟨by decide, by decide, by decide⟩

/-- An extended real whose absolute value is below infinity is a real. -/
theorem real_of_abs_lt (x : EReal) (h : max x (-x) < ⊤) : ∃ r : ℝ, x = (r : EReal) := by
  induction x with
  | bot => simp at h
  | coe r => exact ⟨r, rfl⟩
  | top => simp at h

/-- One cloud's `jnp.all`, taken apart. -/
theorem real_of_all (x : FVec Ideal Cert.Pre_finite.S8x4096x3 .f32)
    (h : Host.reduce IntOp.andi
        (cmpf .olt (Host.absf x) (broadcastInDim Cert.Pre_finite.S8x4096x3 ![] preFacts.bcast_S_S8x4096x3
          (constant Cert.Pre_finite.S_ .f32 0x7F800000#32)))
        (constantI Cert.Pre_finite.S_ 1 1#1) preFacts.reducesTo_S8x4096x3_S_d0_1_2 preFacts.h_S_ ix0 = 1#1)
    (i : Cert.Pre_finite.S8x4096x3.Idx) : ∃ r : ℝ, (x i : EReal) = (r : EReal) := by
  have e := Host.reduce_andi_eq_one _ _ _ _ _ h i (funext fun a => a.elim0)
  refine real_of_abs_lt _ ?_
  have e' : BitVec.ofBool (decide (max (x i : EReal) (-(x i : EReal)) < Ideal.ofBits .f32 0x7F800000#32)) = 1#1 := e
  rw [ofBits_top] at e'
  by_contra hn
  rw [decide_eq_false hn] at e'
  exact absurd e' (by decide)

/-- Both clouds' coordinates are real. -/
theorem real_of_finite (x y : FVec Ideal Cert.Pre_finite.S8x4096x3 .f32)
    (h : Cert.Pre_finite.fn (F := Ideal) x y = fun _ => 1#1) :
    (∀ i, ∃ r : ℝ, (x i : EReal) = (r : EReal)) ∧ ∀ i, ∃ r : ℝ, (y i : EReal) = (r : EReal) := by
  obtain ⟨h₁, h₂⟩ := IntOp.andi_eq_one.mp (congrFun h ix0)
  exact ⟨real_of_all x h₁, real_of_all y h₂⟩

end Cert.Chamfer
-- ==== Proof.Block.lean ====
/-
  What the body leaves in the output block, from the two input blocks: lane `l` of 128 holds the roots of the first
  cloud's points `128 k + l` and those of the second cloud's, added up.

  The sixteen row tiles are run one after the other in the printed text. Here they are a list, the body's two running
  values folds over it (`out_eq_folds`, which holds by unfolding), and each fold is read at an index at once.
-/
module

public import proofs.«01_k».proof.Proof.Tile
public import proofs.«01_k».proof.Proof.Gen.KernelIdeal.Frame
public import Idealize.ShloMosaic.Lib.Pipeline.ValueKit

@[expose] public section

noncomputable section

namespace Cert.Chamfer

open Idealize.ShloMosaic Cert.KernelIdeal Cert.KernelIdeal.Gen

/-- Rows `256 r … 256 r + 255` of a batch's augmented first cloud: what the body loads for tile `r`. -/
def rows (x : FVec Ideal S1x4096x8 .f32) (r : Fin 16) : FVec Ideal S1x256x8 .f32 :=
  fun j => x (ix3 0 ⟨256 * r.val + (j 1).val, by have := r.isLt; have : (j 1).val < 256 := (j 1).isLt; omega⟩ (j 2))

theorem ld_rows (x : FVec Ideal S1x4096x8 .f32) (r : Fin 16) (off : Fin 3 → Nat)
    (inb : ∀ a, off a + S1x256x8.size a ≤ S1x4096x8.size a) (h : off = ![0, 256 * r.val, 0]) :
    (View.ld (Val := Elt Ideal) (e' := .f32) x (Rect.unit (s := S1x4096x8) off S1x256x8.size inb) : Vec Ideal S1x256x8 .f32)
      = rows x r := by
  subst h
  funext j
  pointwise [rows]

theorem ld_whole (y : FVec Ideal S1x8x4096 .f32) : (View.ld (Val := Elt Ideal) (e' := .f32) y r0_1 : Vec Ideal S1x8x4096 .f32) = y :=
  View.ld_unit_zero (Val := Elt Ideal) (e := .f32) (S := S1x8x4096) (off := ![0, 0, 0]) (by decide) _ y

/-- The tiles' tables, first to last. -/
def tables (x : FVec Ideal S1x4096x8 .f32) (y : FVec Ideal S1x8x4096 .f32) : List (FVec Ideal S256x4096 .f32) :=
  List.ofFn fun r : Fin 16 => table (rows x r) y

set_option maxRecDepth 4000 in
theorem out_eq_folds (x : FVec Ideal S1x4096x8 .f32) (y : FVec Ideal S1x8x4096 .f32) :
    out0_2 (F := Ideal) x y = shapeCast S1x1x128
      (addf ((tables x y).foldl (fun acc s => addf acc (rowRoots s)) (broadcast S128 (Scalar.ofBits .f32 0x00000000#32)))
        (colRoots ((tables x y).foldl (fun acc s => minimumf acc (colMin s))
          (broadcast S4096 (Scalar.ofBits .f32 0x7F800000#32)))))
      shapeCasts_S128_S1x1x128 := by
  have ht : tables x y = [table (rows x 0) y, table (rows x 1) y, table (rows x 2) y, table (rows x 3) y,
      table (rows x 4) y, table (rows x 5) y, table (rows x 6) y, table (rows x 7) y, table (rows x 8) y,
      table (rows x 9) y, table (rows x 10) y, table (rows x 11) y, table (rows x 12) y, table (rows x 13) y,
      table (rows x 14) y, table (rows x 15) y] := rfl
  rw [ht]
  unfold_out out0_2
  rw [View.canon_unit_zero (by decide)]
  rw [ld_whole, ld_rows x 0 ![0, 0, 0] _ rfl, ld_rows x 1 ![0, 256, 0] _ rfl, ld_rows x 2 ![0, 512, 0] _ rfl, ld_rows
    x 3 ![0, 768, 0] _ rfl, ld_rows x 4 ![0, 1024, 0] _ rfl, ld_rows x 5 ![0, 1280, 0] _ rfl, ld_rows x 6 ![0, 1536,
    0] _ rfl, ld_rows x 7 ![0, 1792, 0] _ rfl, ld_rows x 8 ![0, 2048, 0] _ rfl, ld_rows x 9 ![0, 2304, 0] _ rfl,
    ld_rows x 10 ![0, 2560, 0] _ rfl, ld_rows x 11 ![0, 2816, 0] _ rfl, ld_rows x 12 ![0, 3072, 0] _ rfl, ld_rows x 13
    ![0, 3328, 0] _ rfl, ld_rows x 14 ![0, 3584, 0] _ rfl, ld_rows x 15 ![0, 3840, 0] _ rfl]
  simp only [List.foldl_cons, List.foldl_nil]
  rfl

/-- The running sum of rows of lanes, read at a lane. -/
theorem foldl_addf_apply (L : List (FVec Ideal S256x4096 .f32)) (z : FVec Ideal S128 .f32) (j : S128.Idx) :
    L.foldl (fun acc s => addf acc (rowRoots s)) z j = z j + (L.map fun s => rowRoots s j).sum := by
  induction L generalizing z with
  | nil => simp
  | cons s L ih =>
    rw [List.foldl_cons, ih, List.map_cons, List.sum_cons, ← add_assoc]
    rfl

/-- The running minimum, read at a column: a value is below it exactly when it is below the first value and below
    every tile's. -/
theorem le_foldl_minimumf (L : List (FVec Ideal S256x4096 .f32)) (z : FVec Ideal S4096 .f32) (j : S4096.Idx) (c : EReal) :
    c ≤ L.foldl (fun acc s => minimumf acc (colMin s)) z j ↔ c ≤ z j ∧ ∀ s ∈ L, c ≤ colMin s j := by
  induction L generalizing z with
  | nil => simp
  | cons s L ih =>
    rw [List.foldl_cons, ih, List.forall_mem_cons, ← and_assoc]
    exact and_congr_left fun _ => le_min_iff

/-- The squared distance that the augmented product computes between point `n` of the first cloud and `q` of the second. -/
def dot8 (x : FVec Ideal S1x4096x8 .f32) (y : FVec Ideal S1x8x4096 .f32) (n q : Fin 4096) : EReal :=
  ∑ k : Fin 8, x (ix3 0 n k) * y (ix3 0 k q)

theorem table_rows (x : FVec Ideal S1x4096x8 .f32) (y : FVec Ideal S1x8x4096 .f32) (r : Fin 16) (p : Fin 256) (q : Fin 4096) :
    table (rows x r) y (ix2 p q) = dot8 x y ⟨256 * r.val + p.val, by omega⟩ q := by
  rw [table_apply]
  rfl

/-- The running minimum over all tiles is the column's minimum over all points of the first cloud. -/
theorem colFold_apply (x : FVec Ideal S1x4096x8 .f32) (y : FVec Ideal S1x8x4096 .f32) (q : Fin 4096) :
    (tables x y).foldl (fun acc s => minimumf acc (colMin s)) (broadcast S4096 (Scalar.ofBits .f32 0x7F800000#32)) (ix1 q)
      = Finset.univ.inf fun n : Fin 4096 => dot8 x y n q := by
  refine eq_of_forall_le_iff fun c => ?_
  have hz : (broadcast S4096 (Scalar.ofBits .f32 0x7F800000#32) : FVec Ideal S4096 .f32) (ix1 q) = (⊤ : EReal) := ofBits_top
  rw [le_foldl_minimumf, hz]
  simp only [le_top, true_and, tables, List.forall_mem_ofFn_iff, colMin_apply, table_rows, Finset.le_inf_iff, Finset.mem_univ,
    forall_const]
  refine ⟨fun h n => ?_, fun h r p => h _⟩
  have := h ⟨n.val / 256, by omega⟩ ⟨n.val % 256, by omega⟩
  rwa [show (⟨256 * (n.val / 256) + n.val % 256, _⟩ : Fin 4096) = n from Fin.ext (Nat.div_add_mod _ _)] at this

/-- The lanes stored as a block of one row. -/
theorem lanes_apply (v : FVec Ideal S128 .f32) (l : Fin 128) :
    shapeCast S1x1x128 v shapeCasts_S128_S1x1x128 (ix3 0 0 l) = v (ix1 l) := by
  pointwise []

/-- THE BLOCK: lane `l` of what a grid point writes back. -/
theorem out_apply (x : FVec Ideal S1x4096x8 .f32) (y : FVec Ideal S1x8x4096 .f32) (l : Fin 128) :
    (out0_2 (F := Ideal) x y (ix3 0 0 l) : EReal)
      = (∑ r : Fin 16, ∑ p : Fin 2, root (Finset.univ.inf fun q : Fin 4096 =>
            dot8 x y ⟨256 * r.val + (p.val * 128 + l.val), by omega⟩ q))
        + ∑ p : Fin 32, root (Finset.univ.inf fun n : Fin 4096 => dot8 x y n ⟨p.val * 128 + l.val, by omega⟩) := by
  rw [out_eq_folds]
  rw [lanes_apply]
  show (_ : EReal) + _ = _
  rw [colRoots_apply, foldl_addf_apply]
  simp only [colFold_apply]
  congr 1
  have hz : (broadcast S128 (Scalar.ofBits .f32 0x00000000#32) : FVec Ideal S128 .f32) (ix1 l) = (0 : EReal) := Ideal.ofBits_zero_f32
  rw [hz, zero_add, tables, List.map_ofFn, List.sum_ofFn]
  refine Finset.sum_congr rfl fun r _ => ?_
  rw [Function.comp_apply, rowRoots_apply]
  simp only [table_rows]

end Cert.Chamfer
-- ==== Proof.Aug.lean ====
/-
  The two arrays that the program prepares for the kernel, read at an index: each point of the first cloud as a row of
  eight numbers, each of the second as a column of eight, such that the product of a row and a column is the squared
  distance. A square is handed over as two numbers, itself rounded to a shorter format and the remainder; with
  exact reals the rounding is the identity and the remainder the square's difference from itself.
-/
module

public import proofs.«01_k».proof.Proof.Gen.KernelIdeal.Frame
public import Idealize.ShloMosaic.Lib.Claim
public import Idealize.ShloMosaic.Lib.Pointwise
public import Idealize.ShloMosaic.Lib.IdealHost
public import Idealize.ShloMosaic.Lib.StableHlo.RunRead

@[expose] public section

noncomputable section

namespace Cert.Chamfer

open Idealize.ShloMosaic Idealize.ShloMosaic.TcCoe Cert.KernelIdeal Cert.KernelIdeal.Gen

variable (m : (ℓ : Loc nD τ sig) → Buf (Elt Ideal) ℓ) (c : Dev nD)

/-- A point's square: its coordinates' squares added first to last. -/
def sq3 (x : FVec Ideal S8x4096x3 .f32) (b : Fin 8) (n : Fin 4096) : EReal :=
  x (ix3 b n 0) * x (ix3 b n 0) + x (ix3 b n 1) * x (ix3 b n 1) + x (ix3 b n 2) * x (ix3 b n 2)

/-- Row `n` of batch `b` of the first cloud, augmented. -/
def augRow (x : FVec Ideal S8x4096x3 .f32) (b : Fin 8) (n : Fin 4096) : Fin 8 → EReal :=
  ![x (ix3 b n 0) * Ideal.ofBits .f32 0xC0000000#32, x (ix3 b n 1) * Ideal.ofBits .f32 0xC0000000#32,
    x (ix3 b n 2) * Ideal.ofBits .f32 0xC0000000#32, sq3 x b n, sq3 x b n - sq3 x b n,
    Ideal.ofBits .f32 0x3F800000#32, Ideal.ofBits .f32 0x3F800000#32, 0]

/-- Column `q` of batch `b` of the second cloud, augmented. -/
def augCol (y : FVec Ideal S8x4096x3 .f32) (b : Fin 8) (q : Fin 4096) : Fin 8 → EReal :=
  ![y (ix3 b q 0), y (ix3 b q 1), y (ix3 b q 2), Ideal.ofBits .f32 0x3F800000#32, Ideal.ofBits .f32 0x3F800000#32,
    sq3 y b q, sq3 y b q - sq3 y b q, 0]

/-- The squares of a cloud's points, as the program computes them from the three coordinate planes. -/
def squares (x : FVec Ideal S8x4096x3 .f32) : FVec Ideal S8x4096 .f32 :=
  let x0 := shapeCast S8x4096 (extractStridedSlice S8x4096x1 ![0, 0, 0] x slices_S8x4096x3_S8x4096x1_0_0_0) shapeCasts_S8x4096x1_S8x4096
  let x1 := shapeCast S8x4096 (extractStridedSlice S8x4096x1 ![0, 0, 1] x slices_S8x4096x3_S8x4096x1_0_0_1) shapeCasts_S8x4096x1_S8x4096
  let x2 := shapeCast S8x4096 (extractStridedSlice S8x4096x1 ![0, 0, 2] x slices_S8x4096x3_S8x4096x1_0_0_2) shapeCasts_S8x4096x1_S8x4096
  addf (addf (mulf x0 x0) (mulf x1 x1)) (mulf x2 x2)

/-- An array rounded to the shorter format and widened back. -/
def roundTrip {S : Shape} (v : FVec Ideal S .f32) : FVec Ideal S .f32 :=
  extf .f32 (truncf .bf16 v bitsLt_bf16_f32) bitsLt_bf16_f32

/-- One number in every place. -/
def filled (w : BitVec 32) : FVec Ideal S8x4096 .f32 := broadcastInDim S8x4096 ![] bcast_S_S8x4096 (constant S_ .f32 w)

/-- A plane put in as a column. -/
def asCol (v : FVec Ideal S8x4096 .f32) : FVec Ideal S8x4096x1 .f32 := broadcastInDim S8x4096x1 ![0, 1] bcast_S8x4096_S8x4096x1_0_1 v

/-- A plane put in as a row. -/
def asRow (v : FVec Ideal S8x4096 .f32) : FVec Ideal S8x1x4096 .f32 := broadcastInDim S8x1x4096 ![0, 2] bcast_S8x4096_S8x1x4096_0_2 v

/-- The first cloud times minus two. -/
def scaled (x : FVec Ideal S8x4096x3 .f32) : FVec Ideal S8x4096x3 .f32 :=
  mulf (roundTrip x) (broadcastInDim S8x4096x3 ![] bcast_S_S8x4096x3 (constant S_ .f32 0xC0000000#32))

/-- The plane of first coordinates, rounded. -/
def plane0 (x : FVec Ideal S8x4096x3 .f32) : FVec Ideal S8x4096 .f32 :=
  shapeCast S8x4096 (extractStridedSlice S8x4096x1 ![0, 0, 0] (roundTrip x) slices_S8x4096x3_S8x4096x1_0_0_0) shapeCasts_S8x4096x1_S8x4096
/-- The plane of second coordinates, rounded. -/
def plane1 (x : FVec Ideal S8x4096x3 .f32) : FVec Ideal S8x4096 .f32 :=
  shapeCast S8x4096 (extractStridedSlice S8x4096x1 ![0, 0, 1] (roundTrip x) slices_S8x4096x3_S8x4096x1_0_0_1) shapeCasts_S8x4096x1_S8x4096
/-- The plane of third coordinates, rounded. -/
def plane2 (x : FVec Ideal S8x4096x3 .f32) : FVec Ideal S8x4096 .f32 :=
  shapeCast S8x4096 (extractStridedSlice S8x4096x1 ![0, 0, 2] (roundTrip x) slices_S8x4096x3_S8x4096x1_0_0_2) shapeCasts_S8x4096x1_S8x4096

/-- The first cloud, augmented. -/
def rowsArr (x : FVec Ideal S8x4096x3 .f32) : FVec Ideal S8x4096x8 .f32 :=
  concatenate S8x4096x8 2 [⟨S8x4096x3, scaled x⟩, ⟨S8x4096x1, asCol (roundTrip (squares x))⟩,
      ⟨S8x4096x1, asCol (roundTrip (subf (squares x) (roundTrip (squares x))))⟩, ⟨S8x4096x1, asCol (filled 0x3F800000#32)⟩,
      ⟨S8x4096x1, asCol (filled 0x3F800000#32)⟩, ⟨S8x4096x1, asCol (filled 0x00000000#32)⟩]
    concatenates_S8x4096x3_S8x4096x1_S8x4096x1_S8x4096x1_S8x4096x1_S8x4096x1_S8x4096x8_d2

/-- The second cloud, augmented. -/
def colsArr (y : FVec Ideal S8x4096x3 .f32) : FVec Ideal S8x8x4096 .f32 :=
  concatenate S8x8x4096 1 [⟨S8x1x4096, asRow (plane0 y)⟩, ⟨S8x1x4096, asRow (plane1 y)⟩, ⟨S8x1x4096, asRow (plane2 y)⟩,
      ⟨S8x1x4096, asRow (filled 0x3F800000#32)⟩, ⟨S8x1x4096, asRow (filled 0x3F800000#32)⟩,
      ⟨S8x1x4096, asRow (roundTrip (squares y))⟩, ⟨S8x1x4096, asRow (roundTrip (subf (squares y) (roundTrip (squares y))))⟩,
      ⟨S8x1x4096, asRow (filled 0x00000000#32)⟩]
    concatenates_S8x1x4096_S8x1x4096_S8x1x4096_S8x1x4096_S8x1x4096_S8x1x4096_S8x1x4096_S8x1x4096_S8x8x4096_d1

theorem entry_rows : (V m c main_v68 : FVec Ideal S8x4096x8 .f32) = rowsArr (m ((c : Thread nD τ).loc main_arg0)) := by
  show StableHlo.after [hostOps0].flatten _ _ = _
  simp only [StableHlo.readAfter, StableHlo.nary_result']
  refine StableHlo.concatenate_congr _ _ ?_ _ _
  after_reads_simp
  rfl

theorem entry_cols : (V m c main_v34 : FVec Ideal S8x8x4096 .f32) = colsArr (m ((c : Thread nD τ).loc main_arg1)) := by
  show StableHlo.after [hostOps0].flatten _ _ = _
  simp only [StableHlo.readAfter, StableHlo.nary_result']
  refine StableHlo.concatenate_congr _ _ ?_ _ _
  after_reads_simp
  rfl

theorem roundTrip_apply {S : Shape} (v : FVec Ideal S .f32) (i : S.Idx) : roundTrip v i = v i := rfl

theorem squares_apply (x : FVec Ideal S8x4096x3 .f32) (b : Fin 8) (n : Fin 4096) : squares x (ix2 b n) = sq3 x b n := by
  pointwise [squares, sq3]

theorem filled_apply (w : BitVec 32) (b : Fin 8) (n : Fin 4096) : filled w (ix2 b n) = Ideal.ofBits .f32 w := by
  pointwise [filled]

theorem asCol_apply (v : FVec Ideal S8x4096 .f32) (b : Fin 8) (n : Fin 4096) (k : Fin 1) : asCol v (ix3 b n k) = v (ix2 b n) := by
  pointwise [asCol]

theorem asRow_apply (v : FVec Ideal S8x4096 .f32) (b : Fin 8) (n : Fin 4096) (k : Fin 1) : asRow v (ix3 b k n) = v (ix2 b n) := by
  pointwise [asRow]

theorem scaled_apply (x : FVec Ideal S8x4096x3 .f32) (b : Fin 8) (n : Fin 4096) (k : Fin 3) :
    scaled x (ix3 b n k) = x (ix3 b n k) * Ideal.ofBits .f32 0xC0000000#32 := by
  pointwise [scaled, roundTrip]

theorem plane0_apply (x : FVec Ideal S8x4096x3 .f32) (b : Fin 8) (n : Fin 4096) : plane0 x (ix2 b n) = x (ix3 b n 0) := by
  pointwise [plane0, roundTrip]
theorem plane1_apply (x : FVec Ideal S8x4096x3 .f32) (b : Fin 8) (n : Fin 4096) : plane1 x (ix2 b n) = x (ix3 b n 1) := by
  pointwise [plane1, roundTrip]
theorem plane2_apply (x : FVec Ideal S8x4096x3 .f32) (b : Fin 8) (n : Fin 4096) : plane2 x (ix2 b n) = x (ix3 b n 2) := by
  pointwise [plane2, roundTrip]

theorem rowsArr_apply (x : FVec Ideal S8x4096x3 .f32) (b : Fin 8) (n : Fin 4096) (k : Fin 8) :
    rowsArr x (ix3 b n k) = augRow x b n k := by
  pointwise [rowsArr]
  fin_vals k with hk
  all_goals simp only [hk, Nat.reduceSub, Nat.reduceLT, ↓reduceDIte]
  · obtain rfl : k = 0 := Fin.ext hk
    exact scaled_apply x b n 0
  · obtain rfl : k = 1 := Fin.ext hk
    exact scaled_apply x b n 1
  · obtain rfl : k = 2 := Fin.ext hk
    exact scaled_apply x b n 2
  · obtain rfl : k = 3 := Fin.ext hk
    exact (asCol_apply _ b n 0).trans (squares_apply x b n)
  · obtain rfl : k = 4 := Fin.ext hk
    exact (asCol_apply _ b n 0).trans (congrArg (fun z : EReal => z - z) (squares_apply x b n))
  · obtain rfl : k = 5 := Fin.ext hk
    exact (asCol_apply _ b n 0).trans (filled_apply _ b n)
  · obtain rfl : k = 6 := Fin.ext hk
    exact (asCol_apply _ b n 0).trans (filled_apply _ b n)
  · obtain rfl : k = 7 := Fin.ext hk
    exact (asCol_apply _ b n 0).trans ((filled_apply _ b n).trans Ideal.ofBits_zero_f32)

theorem colsArr_apply (y : FVec Ideal S8x4096x3 .f32) (b : Fin 8) (q : Fin 4096) (k : Fin 8) :
    colsArr y (ix3 b k q) = augCol y b q k := by
  pointwise [colsArr]
  fin_vals k with hk
  all_goals simp only [hk, Nat.reduceSub, Nat.reduceLT, ↓reduceDIte]
  · obtain rfl : k = 0 := Fin.ext hk
    exact (asRow_apply _ b q 0).trans (plane0_apply y b q)
  · obtain rfl : k = 1 := Fin.ext hk
    exact (asRow_apply _ b q 0).trans (plane1_apply y b q)
  · obtain rfl : k = 2 := Fin.ext hk
    exact (asRow_apply _ b q 0).trans (plane2_apply y b q)
  · obtain rfl : k = 3 := Fin.ext hk
    exact (asRow_apply _ b q 0).trans (filled_apply _ b q)
  · obtain rfl : k = 4 := Fin.ext hk
    exact (asRow_apply _ b q 0).trans (filled_apply _ b q)
  · obtain rfl : k = 5 := Fin.ext hk
    exact (asRow_apply _ b q 0).trans (squares_apply y b q)
  · obtain rfl : k = 6 := Fin.ext hk
    exact (asRow_apply _ b q 0).trans (congrArg (fun z : EReal => z - z) (squares_apply y b q))
  · obtain rfl : k = 7 := Fin.ext hk
    exact (asRow_apply _ b q 0).trans ((filled_apply _ b q).trans Ideal.ofBits_zero_f32)

end Cert.Chamfer
-- ==== Proof.Array.lean ====
/-
  The kernel's output array after its eight grid points, and the number that the program makes of it: point `t` leaves
  batch `t`'s block, and the program adds all the entries up and scales the total.
-/
module

public import proofs.«01_k».proof.Proof.Block
public import proofs.«01_k».proof.Proof.Aug

@[expose] public section

noncomputable section

namespace Cert.Chamfer

open Idealize.ShloMosaic Idealize.ShloMosaic.TcCoe Cert.KernelIdeal Cert.KernelIdeal.Gen

variable (m : (ℓ : Loc nD τ sig) → Buf (Elt Ideal) ℓ) (c : Dev nD)

/-- The two clouds as launched. -/
abbrev cloudA : FVec Ideal S8x4096x3 .f32 := m ((c : Thread nD τ).loc main_arg0)
abbrev cloudB : FVec Ideal S8x4096x3 .f32 := m ((c : Thread nD τ).loc main_arg1)

/-- The product of an augmented row and an augmented column. -/
def augDot (x y : FVec Ideal S8x4096x3 .f32) (b : Fin 8) (n q : Fin 4096) : EReal :=
  ∑ k : Fin 8, augRow x b n k * augCol y b q k

/-- What lane `l` of batch `b` ends holding. -/
def lane (x y : FVec Ideal S8x4096x3 .f32) (b : Fin 8) (l : Fin 128) : EReal :=
  (∑ r : Fin 16, ∑ p : Fin 2, root (Finset.univ.inf fun q : Fin 4096 =>
      augDot x y b ⟨256 * r.val + (p.val * 128 + l.val), by omega⟩ q))
  + ∑ p : Fin 32, root (Finset.univ.inf fun n : Fin 4096 => augDot x y b n ⟨p.val * 128 + l.val, by omega⟩)

/-- The output array. -/
def outArr (x y : FVec Ideal S8x4096x3 .f32) : FVec Ideal S8x1x128 .f32 := fun i => lane x y (i 0) (i 2)

theorem idx0 : ∀ t : Fin cfg0.N, win0_0.index t = ![t.val, 0, 0] := (by decide +kernel : ∀ t : Fin grid0.N, _)
theorem idx1 : ∀ t : Fin cfg0.N, win0_1.index t = ![t.val, 0, 0] := (by decide +kernel : ∀ t : Fin grid0.N, _)
theorem idx2 : ∀ t : Fin cfg0.N, win0_2.index t = ![t.val, 0, 0] := (by decide +kernel : ∀ t : Fin grid0.N, _)

theorem blockA (t : Fin cfg0.N) (n : Fin 4096) (k : Fin 8) :
    (iblk m c 0 t : FVec Ideal S1x4096x8 .f32) (ix3 0 n k) = augRow (cloudA m c) ⟨t.val, t.isLt⟩ n k := by
  rw [← rowsArr_apply, ← entry_rows]
  blk_ext! [iblk, idx0 t]

theorem blockB (t : Fin cfg0.N) (q : Fin 4096) (k : Fin 8) :
    (iblk m c 1 t : FVec Ideal S1x8x4096 .f32) (ix3 0 k q) = augCol (cloudB m c) ⟨t.val, t.isLt⟩ q k := by
  rw [← colsArr_apply, ← entry_cols]
  blk_ext! [iblk, idx1 t]

theorem array : (dats m 0 c).arrAt 2 cfg0.N = outArr (cloudA m c) (cloudB m c) := by
  refine (dats m 0 c).arrAt_eq_of_covers 2 _ (by decide +kernel) fun t hf y => ?_
  blk_simp
  rw [after0_2]
  have hy : y = (ix3 0 0 (y 2) : S1x1x128.Idx) := by
    funext a
    fin_cases a
    · exact Subsingleton.elim (α := Fin 1) _ _
    · exact Subsingleton.elim (α := Fin 1) _ _
    · rfl
  have he : (win0_2.blk t).view.emb y = (ix3 (⟨t.val, t.isLt⟩ : Fin 8) 0 (y 2) : S8x1x128.Idx) := by
    rw [hy]
    blk_ext! [idx2 t]
  rw [he, hy]
  refine (out_apply _ _ _).trans ?_
  show _ = lane _ _ _ _
  unfold lane dot8 augDot
  simp only [blockA, blockB]
  rfl

/-- The program's number, from the output array. -/
def total (a : FVec Ideal S8x1x128 .f32) : FVec Ideal S_ .f32 :=
  mulf (Host.reduceAdd a (constant S_ .f32 0x00000000#32) reducesTo_S8x1x128_S_d0_1_2 h_S_) (constant S_ .f32 0x38000000#32)

theorem total_apply (a : FVec Ideal S8x1x128 .f32) :
    total a ix0 = (∑ b : Fin 8, ∑ l : Fin 128, a (ix3 b 0 l)) * Ideal.ofBits .f32 0x38000000#32 := by
  pointwise [total]
  simp

theorem run (ρ : Dev nD → PrngReg) :
    θ_run defs (onTc (τ := τ) main) (s₀ m ρ) fun r => ∀ c : Dev nD,
      r.2.mem ((c : Thread nD τ).loc main_v71) = total (outArr (cloudA m c) (cloudB m c))
        ∧ r.2.mem ((c : Thread nD τ).loc main_arg0) = m ((c : Thread nD τ).loc main_arg0)
        ∧ r.2.mem ((c : Thread nD τ).loc main_arg1) = m ((c : Thread nD τ).loc main_arg1) := by
  run_from run_main m ρ
  · show StableHlo.after [hostOps1].flatten _ _ = _
    after_reads_simp
    exact congrArg total ((Pipeline.withArrays_arr spec0 (by decide) c (V0 m c) _ 2).trans (array m c))
  · exact W_main_arg0 m (dats m) c
  · exact W_main_arg1 m (dats m) c

end Cert.Chamfer
-- ==== Proof.Ref.lean ====
/-
  The reference's composed term, read: the mean over the first cloud's points of the distance to the nearest point of the
  second, plus the same with the clouds exchanged.
-/
module

public import proofs.«01_k».proof.Proof.Gen.ReferenceIdeal.Run
public import proofs.«01_k».proof.Proof.Tile

@[expose] public section

noncomputable section

namespace Cert.Chamfer

open Idealize.ShloMosaic Cert.ReferenceIdeal Cert.ReferenceIdeal.Gen

/-- Eight clouds of 4096 points in space. -/
abbrev Clouds := FVec Ideal Cert.ReferenceIdeal.S8x4096x3 .f32

/-- The squared distance of point `n` of the first cloud from point `q` of the second, in batch `b`, multiplied out. -/
def sqDist (x y : Clouds) (b : Fin 8) (n q : Fin 4096) : EReal :=
  ∑ k : Fin 3, x (ix3 b n k) * x (ix3 b n k) + ∑ k : Fin 3, y (ix3 b q k) * y (ix3 b q k)
    - Ideal.ofBits .f32 0x40000000#32 * ∑ k : Fin 3, x (ix3 b n k) * y (ix3 b q k)

/-- The reference's array of clamped squared distances. -/
def refSq (x y : Clouds) : FVec Ideal S8x4096x4096 .f32 :=
  maximumf (subf (addf
      (broadcastInDim S8x4096x4096 ![0, 1, 2] bcast_S8x4096x1_S8x4096x4096_0_1_2 (broadcastInDim S8x4096x1 ![0, 1] bcast_S8x4096_S8x4096x1_0_1
        (Host.reduceAdd (mulf x x) (constant S_ .f32 0x00000000#32) reducesTo_S8x4096x3_S8x4096_d2 h_S_)))
      (broadcastInDim S8x4096x4096 ![0, 1, 2] bcast_S8x1x4096_S8x4096x4096_0_1_2 (broadcastInDim S8x1x4096 ![0, 2] bcast_S8x4096_S8x1x4096_0_2
        (Host.reduceAdd (mulf y y) (constant S_ .f32 0x00000000#32) reducesTo_S8x4096x3_S8x4096_d2 h_S_))))
      (mulf (broadcastInDim S8x4096x4096 ![] bcast_S_S8x4096x4096 (constant S_ .f32 0x40000000#32))
        (Host.dotGeneral dot_S8x4096x3_S8x4096x3_S8x4096x4096_2_2_1_1_0_0 none x y)))
    (broadcastInDim S8x4096x4096 ![] bcast_S_S8x4096x4096 (constant S_ .f32 0x00000000#32))

/-- The least entry along the second cloud's axis, from an array of squared distances. -/
def minSecond (s : FVec Ideal S8x4096x4096 .f32) : FVec Ideal S8x4096 .f32 :=
  Host.reduce FloatOps.minimumf s (constant S_ .f32 0x7F800000#32) reducesTo_S8x4096x4096_S8x4096_d2 h_S_

/-- The least entry along the first cloud's axis. -/
def minFirst (s : FVec Ideal S8x4096x4096 .f32) : FVec Ideal S8x4096 .f32 :=
  Host.reduce FloatOps.minimumf s (constant S_ .f32 0x7F800000#32) reducesTo_S8x4096x4096_S8x4096_d1 h_S_

/-- The mean of an array's roots. -/
def meanRoot (s : FVec Ideal S8x4096 .f32) : FVec Ideal S_ .f32 :=
  Host.divf (Host.reduceAdd (Host.sqrt s) (constant S_ .f32 0x00000000#32) reducesTo_S8x4096_S_d0_1 h_S_) (constant S_ .f32 0x47000000#32)

/-- The reference's result. -/
def refOut (x y : Clouds) : FVec Ideal S_ .f32 :=
  addf (meanRoot (minSecond (refSq x y))) (meanRoot (minFirst (refSq x y)))

theorem refSq_apply (x y : Clouds) (b : Fin 8) (n q : Fin 4096) :
    refSq x y (ix3 b n q) = max (sqDist x y b n q) 0 := by
  pointwise [refSq, sqDist]

theorem minSecond_apply (s : FVec Ideal S8x4096x4096 .f32) (b : Fin 8) (n : Fin 4096) :
    minSecond s (ix2 b n) = Finset.univ.inf fun q : Fin 4096 => s (ix3 b n q) := by
  pointwise [minSecond, fold_min_eq_inf]

/-- The middle axis is reduced one coordinate at a time: the index with `n` put back in the middle is `(b, n, q)`. -/
theorem minFirst_apply (s : FVec Ideal S8x4096x4096 .f32) (b : Fin 8) (q : Fin 4096) :
    minFirst s (ix2 b q) = Finset.univ.inf fun n : Fin 4096 => s (ix3 b n q) := by
  have h : S8x4096x4096.Reduces [1] S8x4096 := by decide
  refine (Host.reduce_eq_fold_single FloatOps.minimumf s _ _ h _ _).trans ?_
  refine Eq.trans ?_ (fold_min_eq_inf fun n : Fin 4096 => s (ix3 b n q))
  refine congrArg (fun f => Finset.fold min (Ideal.ofBits .f32 0x7F800000#32) f (Finset.univ : Finset (Fin 4096))) ?_
  funext n
  refine congrArg s (funext fun a => Fin.ext ?_)
  rw [Shape.Reduces.lift_val]
  unfold Shape.Reduces.liftVal
  fin_cases a <;> rfl

theorem meanRoot_apply (s : FVec Ideal S8x4096 .f32) :
    meanRoot s ix0
      = Ideal.div (∑ b : Fin 8, ∑ n : Fin 4096, Ideal.sqrt (s (ix2 b n))) (Ideal.ofBits .f32 0x47000000#32) := by
  pointwise [meanRoot]

/-- Clamping each entry and then taking the least is taking the least and then clamping. -/
theorem inf_max_zero (f : Fin 4096 → EReal) :
    (Finset.univ.inf fun q => max (f q) 0) = max (Finset.univ.inf f) 0 := by
  refine eq_of_forall_le_iff fun c => ?_
  by_cases hc : c ≤ 0 <;> simp [Finset.le_inf_iff, hc]

/-- THE REFERENCE'S RESULT. -/
theorem refOut_apply (x y : Clouds) :
    refOut x y ix0
      = Ideal.div (∑ b : Fin 8, ∑ n : Fin 4096, root (Finset.univ.inf fun q : Fin 4096 => sqDist x y b n q))
          (Ideal.ofBits .f32 0x47000000#32)
        + Ideal.div (∑ b : Fin 8, ∑ q : Fin 4096, root (Finset.univ.inf fun n : Fin 4096 => sqDist x y b n q))
          (Ideal.ofBits .f32 0x47000000#32) := by
  show meanRoot _ ix0 + meanRoot _ ix0 = _
  rw [meanRoot_apply, meanRoot_apply]
  simp only [minSecond_apply, minFirst_apply, refSq_apply, inf_max_zero, root]

end Cert.Chamfer
-- ==== Proof.Equation.lean ====
/-
  The program's number is the reference's. With real coordinates the product of an augmented row and an augmented column
  is the squared distance multiplied out; the lanes, taken together, run through all the points once; and a mean of
  nonnegative numbers may be taken after adding or before.
-/
module

public import proofs.«01_k».proof.Proof.Array
public import proofs.«01_k».proof.Proof.Ref

@[expose] public section

noncomputable section

namespace Cert.Chamfer

open Idealize.ShloMosaic

/-! ## The constants -/

theorem ofBits_two : Ideal.ofBits .f32 0x40000000#32 = ((2 : ℝ) : EReal) := by
  simp [Ideal.ofBits, Ideal.ieee, -EReal.coe_mul]; norm_num
theorem ofBits_neg_two : Ideal.ofBits .f32 0xC0000000#32 = ((-2 : ℝ) : EReal) := by
  simp [Ideal.ofBits, Ideal.ieee, -EReal.coe_mul]; norm_num
theorem ofBits_count : Ideal.ofBits .f32 0x47000000#32 = ((32768 : ℝ) : EReal) := by
  simp [Ideal.ofBits, Ideal.ieee, -EReal.coe_mul]; norm_num
theorem ofBits_inv_count : Ideal.ofBits .f32 0x38000000#32 = ((1 / 32768 : ℝ) : EReal) := by
  simp [Ideal.ofBits, Ideal.ieee, -EReal.coe_mul]; norm_num
theorem ofBits_unit : Ideal.ofBits .f32 0x3F800000#32 = ((1 : ℝ) : EReal) := by
  rw [Ideal.ofBits_one_f32]; rfl

/-! ## Row times column -/

/-- The identity over the reals. -/
theorem dot_real (x₀ x₁ x₂ y₀ y₁ y₂ : ℝ) :
    (x₀ * -2) * y₀ + (x₁ * -2) * y₁ + (x₂ * -2) * y₂ + (x₀ * x₀ + x₁ * x₁ + x₂ * x₂) * 1
        + ((x₀ * x₀ + x₁ * x₁ + x₂ * x₂) - (x₀ * x₀ + x₁ * x₁ + x₂ * x₂)) * 1 + 1 * (y₀ * y₀ + y₁ * y₁ + y₂ * y₂)
        + 1 * ((y₀ * y₀ + y₁ * y₁ + y₂ * y₂) - (y₀ * y₀ + y₁ * y₁ + y₂ * y₂)) + 0 * 0
      = (x₀ * x₀ + x₁ * x₁ + x₂ * x₂) + (y₀ * y₀ + y₁ * y₁ + y₂ * y₂) - 2 * (x₀ * y₀ + x₁ * y₁ + x₂ * y₂) := by
  ring

theorem augDot_eq (x y : Clouds) (hx : ∀ i, ∃ r : ℝ, (x i : EReal) = (r : EReal)) (hy : ∀ i, ∃ r : ℝ, (y i : EReal) = (r : EReal))
    (b : Fin 8) (n q : Fin 4096) : augDot x y b n q = sqDist x y b n q := by
  obtain ⟨x₀, hx₀⟩ := hx (ix3 b n 0)
  obtain ⟨x₁, hx₁⟩ := hx (ix3 b n 1)
  obtain ⟨x₂, hx₂⟩ := hx (ix3 b n 2)
  obtain ⟨y₀, hy₀⟩ := hy (ix3 b q 0)
  obtain ⟨y₁, hy₁⟩ := hy (ix3 b q 1)
  obtain ⟨y₂, hy₂⟩ := hy (ix3 b q 2)
  have e := congrArg (fun r : ℝ => (r : EReal)) (dot_real x₀ x₁ x₂ y₀ y₁ y₂)
  simp only [EReal.coe_add, EReal.coe_mul, EReal.coe_sub] at e
  have l : augDot x y b n q
      = (x (ix3 b n 0) * Ideal.ofBits .f32 0xC0000000#32) * y (ix3 b q 0)
        + (x (ix3 b n 1) * Ideal.ofBits .f32 0xC0000000#32) * y (ix3 b q 1)
        + (x (ix3 b n 2) * Ideal.ofBits .f32 0xC0000000#32) * y (ix3 b q 2)
        + sq3 x b n * Ideal.ofBits .f32 0x3F800000#32 + (sq3 x b n - sq3 x b n) * Ideal.ofBits .f32 0x3F800000#32
        + Ideal.ofBits .f32 0x3F800000#32 * sq3 y b q + Ideal.ofBits .f32 0x3F800000#32 * (sq3 y b q - sq3 y b q)
        + (0 : EReal) * 0 := by
    unfold augDot
    rw [Fin.sum_univ_eight]
    rfl
  rw [l]
  unfold sqDist sq3
  simp only [Fin.sum_univ_three, hx₀, hx₁, hx₂, hy₀, hy₁, hy₂, ofBits_two, ofBits_neg_two, ofBits_unit]
  exact e

/-! ## The lanes -/

/-- A sum over `a · b` numbers, taken `b` at a time. -/
theorem sum_split (a b N : ℕ) (h : a * b = N) (f : Fin N → EReal) (lt : ∀ (i : Fin a) (j : Fin b), i.val * b + j.val < N) :
    ∑ i : Fin a, ∑ j : Fin b, f ⟨i.val * b + j.val, lt i j⟩ = ∑ n : Fin N, f n := by
  subst h
  rw [← Fintype.sum_prod_type']
  refine Fintype.sum_equiv finProdFinEquiv _ _ fun p => congrArg f (Fin.ext ?_)
  rw [finProdFinEquiv_apply_val]
  ring

/-- The second cloud's points, lane by lane. -/
theorem sum_lanes (f : Fin 4096 → EReal) :
    ∑ l : Fin 128, ∑ p : Fin 32, f ⟨p.val * 128 + l.val, by omega⟩ = ∑ n : Fin 4096, f n := by
  rw [Finset.sum_comm]
  exact sum_split 32 128 4096 (by norm_num) f fun i j => by omega

/-- The first cloud's points, lane by lane: sixteen tiles of two rows of lanes. -/
theorem sum_tiles (f : Fin 4096 → EReal) :
    ∑ l : Fin 128, ∑ r : Fin 16, ∑ p : Fin 2, f ⟨256 * r.val + (p.val * 128 + l.val), by omega⟩ = ∑ n : Fin 4096, f n := by
  rw [Finset.sum_comm, ← sum_split 16 256 4096 (by norm_num) f fun i j => by omega]
  refine Finset.sum_congr rfl fun r _ => ?_
  rw [Finset.sum_comm, ← sum_split 2 128 256 (by norm_num) _ fun i j => by omega]
  refine Finset.sum_congr rfl fun p _ => Finset.sum_congr rfl fun l _ => congrArg f (Fin.ext ?_)
  show 256 * r.val + (p.val * 128 + l.val) = r.val * 256 + (p.val * 128 + l.val)
  ring

/-! ## The means -/

theorem root_nonneg (z : EReal) : 0 ≤ root z := by
  unfold root
  have h : (0 : EReal) ≤ max z 0 := le_max_right _ _
  generalize max z 0 = w at h
  induction w with
  | bot => simp at h
  | top => rw [Ideal.sqrt_top]; exact le_top
  | coe r =>
    rw [Ideal.sqrt_coe, if_neg (not_lt.mpr (EReal.coe_nonneg.mp h))]
    exact EReal.coe_nonneg.mpr (Real.sqrt_nonneg r)

theorem div_count (s : EReal) : Ideal.div s (Ideal.ofBits .f32 0x47000000#32) = s * Ideal.ofBits .f32 0x38000000#32 := by
  rw [ofBits_count, ofBits_inv_count, Ideal.div_coe (by norm_num)]

/-- THE EQUATION. -/
theorem total_eq (x y : Clouds) (hx : ∀ i, ∃ r : ℝ, (x i : EReal) = (r : EReal)) (hy : ∀ i, ∃ r : ℝ, (y i : EReal) = (r : EReal)) :
    total (outArr x y) = refOut x y := by
  funext i
  obtain rfl : i = ix0 := funext fun a => a.elim0
  rw [total_apply, refOut_apply, div_count, div_count, ← EReal.right_distrib_of_nonneg
    (Finset.sum_nonneg fun _ _ => Finset.sum_nonneg fun _ _ => root_nonneg _)
    (Finset.sum_nonneg fun _ _ => Finset.sum_nonneg fun _ _ => root_nonneg _), ← Finset.sum_add_distrib]
  refine congrArg (· * Ideal.ofBits .f32 0x38000000#32) (Finset.sum_congr rfl fun b _ => ?_)
  show ∑ l : Fin 128, lane x y b l = _
  unfold lane
  rw [Finset.sum_add_distrib, sum_tiles fun n => root (Finset.univ.inf fun q : Fin 4096 => augDot x y b n q),
    sum_lanes fun q => root (Finset.univ.inf fun n : Fin 4096 => augDot x y b n q)]
  simp only [augDot_eq x y hx hy]

end Cert.Chamfer
-- ==== Proof.lean ====
/-
  The certificate's claim: the kernel and its idealization run and leave their arguments and counters as they were, so
  does the reference, and on finite inputs the idealization's result is the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Equation
public import Idealize.ShloMosaic.Adequacy
public import Idealize.ShloMosaic.Init

@[expose] public section

noncomputable section

namespace Cert.Proof

open Idealize.ShloMosaic Idealize.SL.Sem Cert.Chamfer

/-- The reference's run, and its counters: it declares no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run Cert.ReferenceIdeal.defs _ _).mono (fun r h => ⟨fun c => (h c).2, Idealize.ShloMosaic.sem_eq_zero_of_no_sems (by decide) r.2⟩)
    (Cert.ReferenceIdeal.Value.run m g)

/-- The value claim. -/
theorem algebraic : Cert.algebraic_KernelIdeal_ReferenceIdeal_pre_finite := by
  intro m g m' g' hpre hagree
  refine ⟨fun c => total (outArr (cloudA m c) (cloudB m c)), Cert.Chamfer.run m g, ?_⟩
  refine (θ_run Cert.ReferenceIdeal.defs _ _).mono (fun r h c => ⟨(h c).1.trans ?_, (h c).2⟩) (Cert.ReferenceIdeal.Value.run m' g')
  obtain ⟨hx, hy⟩ := real_of_finite _ _ (hpre c)
  rw [(hagree c).1, (hagree c).2]
  exact (total_eq (cloudA m c) (cloudB m c) hx hy).symm

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g, fun m g _ => Cert.KernelIdeal.Gen.frame m g,
    fun m g _ => frame_reference m g, fun m g _ => frame_reference m g, trivial, algebraic⟩

end Cert.Proof

end
